-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_v13) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S4x512x1024 : Shape := ⟨3, ![4, 512, 1024]⟩
abbrev S16x1024x256 : Shape := ⟨3, ![16, 1024, 256]⟩
abbrev S_ : Shape := ⟨0, ![]⟩

class Facts : Prop where
  bcast_S_S4x512x1024 : S_.BroadcastsInDim S4x512x1024 (![] : Fin 0 → Fin S4x512x1024.rank)
  bcast_S_S16x1024x256 : S_.BroadcastsInDim S16x1024x256 (![] : Fin 0 → Fin S16x1024x256.rank)

variable [Facts]

def fn {F : FTy → Type} [FloatOps F] (main_arg0 : FVec F S4x512x1024 .f32) (main_arg1 : FVec F S16x1024x256 .f32) (main_arg2 : FVec F S16x1024x256 .f32) : IVec S4x512x1024 1 × IVec S16x1024x256 1 :=
  let main_v0 : FVec F S4x512x1024 .f32 := Host.absf main_arg0
  let main_cst : FVec F S_ .f32 := constant S_ .f32 0x7F800000#32
  let main_v1 : FVec F S4x512x1024 .f32 := broadcastInDim S4x512x1024 ![] bcast_S_S4x512x1024 main_cst
  let main_v2 : IVec S4x512x1024 1 := cmpf .olt main_v0 main_v1
  let main_v3 : FVec F S16x1024x256 .f32 := Host.absf main_arg1
  let main_cst_0 : FVec F S_ .f32 := constant S_ .f32 0x7F800000#32
  let main_v4 : FVec F S16x1024x256 .f32 := broadcastInDim S16x1024x256 ![] bcast_S_S16x1024x256 main_cst_0
  let main_v5 : IVec S16x1024x256 1 := cmpf .olt main_v3 main_v4
  (main_v2, main_v5)
-- ==== Kernel.lean ====
abbrev S4x512x1024 : Shape := ⟨3, ![4, 512, 1024]⟩
abbrev S16x1024x256 : Shape := ⟨3, ![16, 1024, 256]⟩
abbrev S4x16x512x1024 : Shape := ⟨4, ![4, 16, 512, 1024]⟩
abbrev S4x16x512x512 : Shape := ⟨4, ![4, 16, 512, 512]⟩
abbrev S1x1x512x1024 : Shape := ⟨4, ![1, 1, 512, 1024]⟩
abbrev S1x1x512x512 : Shape := ⟨4, ![1, 1, 512, 512]⟩
abbrev S1x512x1024 : Shape := ⟨3, ![1, 512, 1024]⟩
abbrev S512x1024 : Shape := ⟨2, ![512, 1024]⟩
abbrev S1x1024x256 : Shape := ⟨3, ![1, 1024, 256]⟩
abbrev S1024x256 : Shape := ⟨2, ![1024, 256]⟩
abbrev S512x256 : Shape := ⟨2, ![512, 256]⟩
abbrev S512x512 : Shape := ⟨2, ![512, 512]⟩
abbrev S512 : Shape := ⟨1, ![512]⟩
abbrev S512x1 : Shape := ⟨2, ![512, 1]⟩

abbrev nBuf : Space → Nat
  | .hbm => 5
  | .vmem => 6
  | .smem => 0
  | _ => 0

abbrev bufTy : (tb : Table) → Fin (tcTables nBuf tb) → BufTy
  | .hbm, ⟨0, _⟩ => ⟨S4x512x1024, .f32⟩
  | .hbm, ⟨1, _⟩ => ⟨S16x1024x256, .f32⟩
  | .hbm, ⟨2, _⟩ => ⟨S16x1024x256, .f32⟩
  | .hbm, ⟨3, _⟩ => ⟨S4x16x512x1024, .f32⟩
  | .hbm, ⟨4, _⟩ => ⟨S4x16x512x512, .f32⟩
  | .local _ .vmem, ⟨0, _⟩ => ⟨S4x512x1024, .f32⟩
  | .local _ .vmem, ⟨1, _⟩ => ⟨S16x1024x256, .f32⟩
  | .local _ .vmem, ⟨2, _⟩ => ⟨S1x1x512x1024, .f32⟩
  | .local _ .vmem, ⟨3, _⟩ => ⟨S1x1x512x1024, .f32⟩
  | .local _ .vmem, ⟨4, _⟩ => ⟨S1x1x512x512, .f32⟩
  | .local _ .vmem, ⟨5, _⟩ => ⟨S1x1x512x512, .f32⟩
  | _, _ => ⟨S4x512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![4, 16], ![false, false]⟩

def k0_off1 (i : grid0.Coords) : Fin 3 → Nat :=
  let arg0 : BitVec 32 := BitVec.ofNat 32 (i 0).val
  let v0 : Index := Scalar.indexCast arg0
  let c0 : Index := 0#32
  let c0_0 : Index := 0#32
  ![v0.toNat, 0, 0]
def k0_off2 (i : grid0.Coords) : Fin 3 → Nat :=
  let arg1 : BitVec 32 := BitVec.ofNat 32 (i 1).val
  let c1_i32 : BitVec 32 := 1#32
  let v3 : BitVec 32 := Scalar.muli arg1 c1_i32
  let c0_i32 : BitVec 32 := 0#32
  let v4 : BitVec 32 := Scalar.addi v3 c0_i32
  let v5 : Index := Scalar.indexCast v4
  let c0_1 : Index := 0#32
  let c0_2 : Index := 0#32
  ![v5.toNat, 0, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 1 → Memref sig .tc .vmem S4x512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S16x1024x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceIdeal.lean ====
abbrev S4x512x1024 : Shape := ⟨3, ![4, 512, 1024]⟩
abbrev S16x1024x256 : Shape := ⟨3, ![16, 1024, 256]⟩
abbrev S16x256x4x512 : Shape := ⟨4, ![16, 256, 4, 512]⟩
abbrev S4x16x512x256 : Shape := ⟨4, ![4, 16, 512, 256]⟩
abbrev S4x16x512x512 : Shape := ⟨4, ![4, 16, 512, 512]⟩
abbrev S_ : Shape := ⟨0, ![]⟩
abbrev S4x16x512 : Shape := ⟨3, ![4, 16, 512]⟩
abbrev S4x16x512x1 : Shape := ⟨4, ![4, 16, 512, 1]⟩
abbrev S4x16x512x1024 : Shape := ⟨4, ![4, 16, 512, 1024]⟩

abbrev nBuf : Space → Nat
  | .hbm => 21
  | .vmem => 0
  | .smem => 0
  | _ => 0

abbrev bufTy : (tb : Table) → Fin (tcTables nBuf tb) → BufTy
  | .hbm, ⟨0, _⟩ => ⟨S4x512x1024, .f32⟩
  | .hbm, ⟨1, _⟩ => ⟨S16x1024x256, .f32⟩
  | .hbm, ⟨2, _⟩ => ⟨S16x1024x256, .f32⟩
  | .hbm, ⟨3, _⟩ => ⟨S16x256x4x512, .f32⟩
  | .hbm, ⟨4, _⟩ => ⟨S4x16x512x256, .f32⟩
  | .hbm, ⟨5, _⟩ => ⟨S4x16x512x512, .f32⟩
  | .hbm, ⟨6, _⟩ => ⟨S_, .f32⟩
  | .hbm, ⟨7, _⟩ => ⟨S4x16x512, .f32⟩
  | .hbm, ⟨8, _⟩ => ⟨S_, .f32⟩
  | .hbm, ⟨9, _⟩ => ⟨S4x16x512, .f32⟩
  | .hbm, ⟨10, _⟩ => ⟨S4x16x512, .f32⟩
  | .hbm, ⟨11, _⟩ => ⟨S4x16x512x1, .f32⟩
  | .hbm, ⟨12, _⟩ => ⟨S4x16x512x512, .f32⟩
  | .hbm, ⟨13, _⟩ => ⟨S4x16x512x512, .f32⟩
  | .hbm, ⟨14, _⟩ => ⟨S4x16x512x512, .f32⟩
  | .hbm, ⟨15, _⟩ => ⟨S_, .f32⟩
  | .hbm, ⟨16, _⟩ => ⟨S4x16x512, .f32⟩
  | .hbm, ⟨17, _⟩ => ⟨S4x16x512x1, .f32⟩
  | .hbm, ⟨18, _⟩ => ⟨S4x16x512x512, .f32⟩
  | .hbm, ⟨19, _⟩ => ⟨S4x16x512x512, .f32⟩
  | .hbm, ⟨20, _⟩ => ⟨S4x16x512x1024, .f32⟩
  | _, _ => ⟨S4x512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Proof.Head.lean ====
/- One attention head over the real numbers, and the few facts about extended reals the two programs need.
   A head takes the rows `X` of one batch entry (512 rows of 1024 features) and one projection `W` (1024 features to
   256). Both programs compute, out of these, a row-stochastic matrix of weights and the rows it averages. -/
module

public import Idealize.ShloMosaic.PureOps.Ideal.Laws

@[expose] public section

noncomputable section

namespace Cert.Head

open Idealize.ShloMosaic

/-! ## The head -/

section Real
variable (X : Fin 512 → Fin 1024 → ℝ) (W : Fin 1024 → Fin 256 → ℝ)

/-- Feature `h` of the projected row `t`. -/
def query (t : Fin 512) (h : Fin 256) : ℝ := ∑ d, X t d * W d h

/-- How well rows `s` and `t` match: the inner product of their projections. -/
def score (s t : Fin 512) : ℝ := ∑ h, query X W s h * query X W t h

/-- The normaliser of row `s`: the sum of the exponentials of its scores. -/
def mass (s : Fin 512) : ℝ := ∑ t, Real.exp (score X W s t)

/-- The weight row `s` gives to row `t`: the softmax of its scores. -/
def weight (s t : Fin 512) : ℝ := Real.exp (score X W s t) / mass X W s

/-- Feature `d` of the average of the rows under the weights of row `s`. -/
def attend (s : Fin 512) (d : Fin 1024) : ℝ := ∑ t, weight X W s t * X t d

/-- A sum of exponentials over the rows is positive. -/
theorem sum_exp_pos (f : Fin 512 → ℝ) : 0 < ∑ t, Real.exp (f t) :=
  Finset.sum_pos (fun t _ => Real.exp_pos _) Finset.univ_nonempty

/-- The normaliser is positive, so it may be divided by. -/
theorem mass_pos (s : Fin 512) : 0 < mass X W s := sum_exp_pos _

/-- Taking one number off all the scores of a row leaves its weights as they are. -/
theorem weight_shift (M : ℝ) (s t : Fin 512) :
    Real.exp (score X W s t - M) * (1 / ∑ u, Real.exp (score X W s u - M)) = weight X W s t := by
  have hM : Real.exp M ≠ 0 := (Real.exp_pos M).ne'
  have hm : mass X W s ≠ 0 := (mass_pos X W s).ne'
  have hs : ∑ u, Real.exp (score X W s u - M) = mass X W s / Real.exp M := by
    simp only [Real.exp_sub, mass, Finset.sum_div]
  rw [hs, Real.exp_sub, weight]
  field_simp

/-- Averaging with the bare exponentials and normalising afterwards is averaging with the weights. -/
theorem attend_late (s : Fin 512) (d : Fin 1024) :
    (∑ t, Real.exp (score X W s t) * X t d) * (1 / mass X W s) = attend X W s d := by
  rw [attend, Finset.sum_mul]
  exact Finset.sum_congr rfl fun t _ => by rw [weight]; ring

end Real

/-! ## Every head of every batch entry -/

section Arrays
variable (X : Fin 4 → Fin 512 → Fin 1024 → ℝ) (W : Fin 16 → Fin 1024 → Fin 256 → ℝ)

/-- The array of weights: at `(b, n, s, t)`, the weight row `s` gives to row `t` in batch entry `b` under head `n`. -/
def weights (i : (⟨4, ![4, 16, 512, 512]⟩ : Shape).Idx) : EReal := (weight (X (i 0)) (W (i 1)) (i 2) (i 3) : ℝ)

/-- The array of averaged rows: at `(b, n, s, d)`, feature `d` of the average under the weights of row `s` in batch
    entry `b` under head `n`. -/
def averages (i : (⟨4, ![4, 16, 512, 1024]⟩ : Shape).Idx) : EReal := (attend (X (i 0)) (W (i 1)) (i 2) (i 3) : ℝ)

end Arrays

/-! ## Extended reals -/

/-- A finite sum of reals, taken among the extended reals. -/
theorem coe_sum {ι : Type*} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- A finite sum of products of reals, taken among the extended reals. -/
theorem coe_sum_mul {ι : Type*} (s : Finset ι) (f g : ι → ℝ) :
    ∑ i ∈ s, (f i : EReal) * (g i : EReal) = ((∑ i ∈ s, f i * g i : ℝ) : EReal) := by
  rw [← coe_sum]
  exact Finset.sum_congr rfl fun i _ => (EReal.coe_mul _ _).symm

/-- The maximum of reals over a set that is not empty, started from minus infinity, is a real. -/
theorem fold_max_real {ι : Type*} (s : Finset ι) (hs : s.Nonempty) (f : ι → ℝ) :
    ∃ M : ℝ, s.fold max (⊥ : EReal) (fun i => (f i : EReal)) = (M : EReal) := by
  classical
  induction hs using Finset.Nonempty.cons_induction with
  | singleton a => exact ⟨f a, by rw [Finset.fold_singleton, max_bot_right]⟩
  | cons a s ha hs ih =>
    obtain ⟨M, hM⟩ := ih
    exact ⟨max (f a) M, by rw [Finset.fold_cons, hM]; exact (EReal.coe_strictMono.monotone.map_max (a := f a) (b := M)).symm⟩

/-- The word of minus infinity. -/
theorem negInf_word : Ideal.ofBits .f32 0xFF800000#32 = ⊥ := by simp [Ideal.ofBits, Ideal.ieee]

/-- The word of plus infinity. -/
theorem posInf_word : Ideal.ofBits .f32 0x7F800000#32 = ⊤ := by simp [Ideal.ofBits, Ideal.ieee]

/-- An extended real whose absolute value is below plus infinity is a real. -/
theorem coe_toReal_of_abs_lt {x : EReal} (h : max x (-x) < ⊤) : ((x.toReal : ℝ) : EReal) = x := by
  refine EReal.coe_toReal (fun e => ?_) (fun e => ?_) <;> subst e <;> simp at h

end Cert.Head

end
-- ==== Proof.HeadKernel.lean ====
/- What the kernel's body computes from one batch entry and one projection, when these are real: the weights and the
   averaged rows of `Cert.Head`. The body exponentiates the scores as they are, averages with the bare exponentials,
   and multiplies both results by one over the row's normaliser. -/
module

public import proofs.«01_k».proof.Proof.Gen.KernelIdeal.Skeleton
public import proofs.«01_k».proof.Proof.Head
public import Idealize.ShloMosaic.Lib.Pointwise

@[expose] public section

set_option maxRecDepth 16384

noncomputable section

namespace Cert.KernelIdeal.HeadValue

open Idealize.ShloMosaic Cert.KernelIdeal.Gen Cert.Head

variable {X : Fin 512 → Fin 1024 → ℝ} {W : Fin 1024 → Fin 256 → ℝ}
  {v1 : Vec Ideal S1x512x1024 .f32} {v6 : Vec Ideal S1x1024x256 .f32}

/-- The rows, read as a matrix. -/
theorem rows_apply (h1 : ∀ t d, v1 (ix3 0 t d) = (X t d : EReal)) (t : Fin 512) (d : Fin 1024) :
    k0_pay1 v1 (ix2 t d) = (X t d : EReal) := by
  pointwise [k0_pay1]
  exact h1 t d

/-- The exponentials of the scores. -/
theorem expScore_apply (h1 : ∀ t d, v1 (ix3 0 t d) = (X t d : EReal)) (h6 : ∀ d h, v6 (ix3 0 d h) = (W d h : EReal))
    (s t : Fin 512) : k0_pay2 v1 v6 (ix2 s t) = (Real.exp (score X W s t) : EReal) := by
  pointwise [k0_pay2]
  simp only [rows_apply h1, h6, coe_sum_mul, Ideal.exp_coe]
  rfl

/-- One over the normaliser of each row. -/
theorem recip_apply (h1 : ∀ t d, v1 (ix3 0 t d) = (X t d : EReal)) (h6 : ∀ d h, v6 (ix3 0 d h) = (W d h : EReal))
    (s : Fin 512) : k0_pay3 v1 v6 (ix2 s 0) = ((1 / mass X W s : ℝ) : EReal) := by
  pointwise [k0_pay3]
  simp only [expScore_apply h1 h6, coe_sum]
  rw [show ∑ t, Real.exp (score X W s t) = mass X W s from rfl, Ideal.div_coe (mass_pos X W s).ne', one_mul]

/-- The weights the body stores. -/
theorem weights_apply (h1 : ∀ t d, v1 (ix3 0 t d) = (X t d : EReal)) (h6 : ∀ d h, v6 (ix3 0 d h) = (W d h : EReal))
    (s t : Fin 512) : k0_pay4 v1 v6 (ix4 0 0 s t) = (weight X W s t : EReal) := by
  pointwise [k0_pay4]
  rw [expScore_apply h1 h6, recip_apply h1 h6, ← EReal.coe_mul, weight, mul_one_div]

/-- The averaged rows the body stores. -/
theorem averages_apply (h1 : ∀ t d, v1 (ix3 0 t d) = (X t d : EReal)) (h6 : ∀ d h, v6 (ix3 0 d h) = (W d h : EReal))
    (s : Fin 512) (d : Fin 1024) : k0_pay5 v1 v6 (ix4 0 0 s d) = (attend X W s d : EReal) := by
  pointwise [k0_pay5]
  simp only [expScore_apply h1 h6, rows_apply h1, coe_sum_mul]
  rw [recip_apply h1 h6, ← EReal.coe_mul, attend_late]

end Cert.KernelIdeal.HeadValue

end
-- ==== Proof.KernelArrays.lean ====
/- What the kernel's two result arrays hold after a run, when every element of its first two arguments is real: the
   weights and the averaged rows of every head of every batch entry. Grid point `(b, n)` loads batch entry `b` and
   projection `n` and writes block `(b, n)` of each result; the blocks tile the results. -/
module

public import proofs.«01_k».proof.Proof.Gen.KernelIdeal.Value
public import proofs.«01_k».proof.Proof.HeadKernel
public import Idealize.ShloMosaic.Lib.Pipeline.ValueKit

@[expose] public section

set_option maxRecDepth 16384

noncomputable section

namespace Cert.KernelIdeal.HeadValue

open Idealize.ShloMosaic Idealize.ShloMosaic.TcCoe Idealize.SL.Sem
open Cert.KernelIdeal Cert.KernelIdeal.Gen Cert.Head

variable (m : (ℓ : Loc nD τ sig) → Buf (Elt Ideal) ℓ)

/-- At grid point `t` the blocks of the two results have one index, and it is the place in the arguments the body
    loads from. -/
theorem points : ∀ t : Fin cfg0.N,
    win0_0.index t = ![0, 0, 0] ∧ win0_1.index t = ![0, 0, 0]
    ∧ win0_2.index t = ![(grid0.coords t 0).val, (grid0.coords t 1).val, 0, 0]
    ∧ win0_3.index t = ![(grid0.coords t 0).val, (grid0.coords t 1).val, 0, 0]
    ∧ k0_off1 (grid0.coords t) = ![(grid0.coords t 0).val, 0, 0]
    ∧ k0_off2 (grid0.coords t) = ![(grid0.coords t 1).val, 0, 0] :=
  (by decide +kernel : ∀ t : Fin grid0.N,
    win0_0.index t = ![0, 0, 0] ∧ win0_1.index t = ![0, 0, 0]
    ∧ win0_2.index t = ![(grid0.coords t 0).val, (grid0.coords t 1).val, 0, 0]
    ∧ win0_3.index t = ![(grid0.coords t 0).val, (grid0.coords t 1).val, 0, 0]
    ∧ k0_off1 (grid0.coords t) = ![(grid0.coords t 0).val, 0, 0]
    ∧ k0_off2 (grid0.coords t) = ![(grid0.coords t 1).val, 0, 0])

/-- The first window shows the body the whole first argument. -/
theorem block0 (c : Dev nD) (t : Fin cfg0.N) (y : S4x512x1024.Idx) :
    (iblk m c 0 t : Vec Ideal S4x512x1024 .f32) y = m ((c : Thread nD τ).loc main_arg0) y := by
  have e := (points t).1
  unfold iblk
  rw [View.read_apply, ← V_main_arg0 m c]
  refine congrArg (V m c main_arg0) (funext fun a => Fin.ext ?_)
  blk_simp [e]
  match a with
  | ⟨0, _⟩ => exact Nat.zero_add _
  | ⟨1, _⟩ => exact Nat.zero_add _
  | ⟨2, _⟩ => exact Nat.zero_add _

/-- The second window shows the body the whole second argument. -/
theorem block1 (c : Dev nD) (t : Fin cfg0.N) (y : S16x1024x256.Idx) :
    (iblk m c 1 t : Vec Ideal S16x1024x256 .f32) y = m ((c : Thread nD τ).loc main_arg1) y := by
  have e := (points t).2.1
  unfold iblk
  rw [View.read_apply, ← V_main_arg1 m c]
  refine congrArg (V m c main_arg1) (funext fun a => Fin.ext ?_)
  blk_simp [e]
  match a with
  | ⟨0, _⟩ => exact Nat.zero_add _
  | ⟨1, _⟩ => exact Nat.zero_add _
  | ⟨2, _⟩ => exact Nat.zero_add _

variable {X : Fin 4 → Fin 512 → Fin 1024 → ℝ} {W : Fin 16 → Fin 1024 → Fin 256 → ℝ}

/-- The body's first load at point `(b, n)` is batch entry `b`. -/
theorem load0 (c : Dev nD)
    (hx : ∀ i : S4x512x1024.Idx, m ((c : Thread nD τ).loc main_arg0) i = (X (i 0) (i 1) (i 2) : EReal))
    (t : Fin cfg0.N) (s : Fin 512) (d : Fin 1024) :
    View.ld (iblk m c 0 t : Vec Ideal S4x512x1024 .f32)
      (Rect.unit (k0_off1 (grid0.coords t)) S1x512x1024.size (k0_off1_inb (grid0.coords t))) (ix3 0 s d)
      = (X (grid0.coords t 0) s d : EReal) := by
  have e := (points t).2.2.2.2.1
  refine (View.ld_unit_apply_of _ _ _ _ _ (ix3 (n0 := 4) (grid0.coords t 0) s d) (fun a => by
    match a with
    | ⟨0, _⟩ => exact (congrFun e 0).symm
    | ⟨1, _⟩ =>
      show s.val = k0_off1 (grid0.coords t) 1 + s.val
      rw [congrFun e 1]
      exact (Nat.zero_add _).symm
    | ⟨2, _⟩ =>
      show d.val = k0_off1 (grid0.coords t) 2 + d.val
      rw [congrFun e 2]
      exact (Nat.zero_add _).symm)).trans ((block0 m c t _).trans (hx _))

/-- The body's second load at point `(b, n)` is projection `n`. -/
theorem load1 (c : Dev nD)
    (hw : ∀ i : S16x1024x256.Idx, m ((c : Thread nD τ).loc main_arg1) i = (W (i 0) (i 1) (i 2) : EReal))
    (t : Fin cfg0.N) (d : Fin 1024) (h : Fin 256) :
    View.ld (iblk m c 1 t : Vec Ideal S16x1024x256 .f32)
      (Rect.unit (k0_off2 (grid0.coords t)) S1x1024x256.size (k0_off2_inb (grid0.coords t))) (ix3 0 d h)
      = (W (grid0.coords t 1) d h : EReal) := by
  have e := (points t).2.2.2.2.2
  refine (View.ld_unit_apply_of _ _ _ _ _ (ix3 (n0 := 16) (grid0.coords t 1) d h) (fun a => by
    match a with
    | ⟨0, _⟩ => exact (congrFun e 0).symm
    | ⟨1, _⟩ =>
      show d.val = k0_off2 (grid0.coords t) 1 + d.val
      rw [congrFun e 1]
      exact (Nat.zero_add _).symm
    | ⟨2, _⟩ =>
      show h.val = k0_off2 (grid0.coords t) 2 + h.val
      rw [congrFun e 2]
      exact (Nat.zero_add _).symm)).trans ((block1 m c t _).trans (hw _))

/-- After the run the second result is the array of weights. -/
theorem weights_arr (c : Dev nD)
    (hx : ∀ i : S4x512x1024.Idx, m ((c : Thread nD τ).loc main_arg0) i = (X (i 0) (i 1) (i 2) : EReal))
    (hw : ∀ i : S16x1024x256.Idx, m ((c : Thread nD τ).loc main_arg1) i = (W (i 0) (i 1) (i 2) : EReal)) :
    (dats m 0 c).arrAt 3 cfg0.N = weights X W := by
  refine (dats m 0 c).arrAt_eq_of_covers 3 _ (by decide +kernel) fun t hf y => ?_
  blk_simp
  rw [after0_3]
  unfold outsAt0
  dsimp only
  frame_out
  have hy : (y : S1x1x512x512.Idx) = ix4 0 0 (y 2) (y 3) := by
    funext a
    match a with
    | ⟨0, _⟩ => exact Fin.eq_zero (y 0)
    | ⟨1, _⟩ => exact Fin.eq_zero (y 1)
    | ⟨2, _⟩ => rfl
    | ⟨3, _⟩ => rfl
  have hz : ((View.whole main_v0_1).slice (win0_3.rect t)).emb y
      = ix4 (grid0.coords t 0 : Fin 4) (grid0.coords t 1 : Fin 16) (y 2 : Fin 512) (y 3 : Fin 512) := by
    funext a
    apply Fin.ext
    match a with
    | ⟨0, _⟩ => blk_simp [(points t).2.2.2.1]
    | ⟨1, _⟩ => blk_simp [(points t).2.2.2.1]
    | ⟨2, _⟩ => blk_simp [(points t).2.2.2.1]; rfl
    | ⟨3, _⟩ => blk_simp [(points t).2.2.2.1]; rfl
  rw [hz]
  refine (congrArg _ hy).trans ?_
  exact weights_apply (load0 m c hx t) (load1 m c hw t) (y 2) (y 3)

/-- After the run the first result is the array of averaged rows. -/
theorem averages_arr (c : Dev nD)
    (hx : ∀ i : S4x512x1024.Idx, m ((c : Thread nD τ).loc main_arg0) i = (X (i 0) (i 1) (i 2) : EReal))
    (hw : ∀ i : S16x1024x256.Idx, m ((c : Thread nD τ).loc main_arg1) i = (W (i 0) (i 1) (i 2) : EReal)) :
    (dats m 0 c).arrAt 2 cfg0.N = averages X W := by
  refine (dats m 0 c).arrAt_eq_of_covers 2 _ (by decide +kernel) fun t hf y => ?_
  blk_simp
  rw [after0_2]
  unfold outsAt0
  dsimp only
  frame_out
  have hy : (y : S1x1x512x1024.Idx) = ix4 0 0 (y 2) (y 3) := by
    funext a
    match a with
    | ⟨0, _⟩ => exact Fin.eq_zero (y 0)
    | ⟨1, _⟩ => exact Fin.eq_zero (y 1)
    | ⟨2, _⟩ => rfl
    | ⟨3, _⟩ => rfl
  have hz : ((View.whole main_v0_0).slice (win0_2.rect t)).emb y
      = ix4 (grid0.coords t 0 : Fin 4) (grid0.coords t 1 : Fin 16) (y 2 : Fin 512) (y 3 : Fin 1024) := by
    funext a
    apply Fin.ext
    match a with
    | ⟨0, _⟩ => blk_simp [(points t).2.2.1]
    | ⟨1, _⟩ => blk_simp [(points t).2.2.1]
    | ⟨2, _⟩ => blk_simp [(points t).2.2.1]; rfl
    | ⟨3, _⟩ => blk_simp [(points t).2.2.1]; rfl
  rw [hz]
  refine (congrArg _ hy).trans ?_
  exact averages_apply (load0 m c hx t) (load1 m c hw t) (y 2) (y 3)

end Cert.KernelIdeal.HeadValue

end
-- ==== Proof.HeadReference.lean ====
/- What the reference computes when every element of its first two arguments is real: the weights and the averaged rows
   of every head of every batch entry. It takes the greatest score of a row off the row's scores before it
   exponentiates them, and divides by the normaliser before it averages. -/
module

public import proofs.«01_k».proof.Proof.Gen.ReferenceIdeal.Read
public import proofs.«01_k».proof.Proof.Head
public import Idealize.ShloMosaic.Lib.Pointwise
public import Idealize.ShloMosaic.Lib.IdealHost

@[expose] public section

set_option maxRecDepth 16384

noncomputable section

namespace Cert.ReferenceIdeal.HeadValue

open Idealize.ShloMosaic Cert.ReferenceIdeal Cert.ReferenceIdeal.Read Cert.Head

variable {X : Fin 4 → Fin 512 → Fin 1024 → ℝ} {W : Fin 16 → Fin 1024 → Fin 256 → ℝ}
  {x0 : (⟨S4x512x1024, .f32⟩ : BufTy).Contents (Elt Ideal)} {x1 : (⟨S16x1024x256, .f32⟩ : BufTy).Contents (Elt Ideal)}

/-- The projected rows. -/
theorem query_apply (hx : ∀ i : S4x512x1024.Idx, x0 i = (X (i 0) (i 1) (i 2) : EReal))
    (hw : ∀ i : S16x1024x256.Idx, x1 i = (W (i 0) (i 1) (i 2) : EReal)) (i : S4x16x512x256.Idx) :
    val_main_v1 x0 x1 i = (query (X (i 0)) (W (i 1)) (i 2) (i 3) : EReal) := by
  rw [val_main_v1_apply, val_main_v0_apply]
  simp only [hx, hw, coe_sum_mul]
  exact congrArg _ (Finset.sum_congr rfl fun d _ => mul_comm _ _)

/-- The scores. -/
theorem score_apply (hx : ∀ i : S4x512x1024.Idx, x0 i = (X (i 0) (i 1) (i 2) : EReal))
    (hw : ∀ i : S16x1024x256.Idx, x1 i = (W (i 0) (i 1) (i 2) : EReal)) (i : S4x16x512x512.Idx) :
    val_main_v2 x0 x1 i = (score (X (i 0)) (W (i 1)) (i 2) (i 3) : EReal) := by
  rw [val_main_v2_apply]
  simp only [query_apply hx hw, coe_sum_mul]
  rfl

/-- What the reference takes off the scores of a row is a real number. -/
theorem shift_real (hx : ∀ i : S4x512x1024.Idx, x0 i = (X (i 0) (i 1) (i 2) : EReal))
    (hw : ∀ i : S16x1024x256.Idx, x1 i = (W (i 0) (i 1) (i 2) : EReal)) (j : S4x16x512.Idx) :
    ∃ M : ℝ, val_main_v5 x0 x1 j = (M : EReal) := by
  obtain ⟨M, hM⟩ := fold_max_real (Finset.univ : Finset (Fin 512)) Finset.univ_nonempty
    (fun t => score (X (j 0)) (W (j 1)) (j 2) t)
  refine ⟨M, ?_⟩
  rw [val_main_v5_apply, val_main_v4_apply, val_main_cst_0_apply]
  pointwise [val_main_v3, val_main_cst]
  simp only [score_apply hx hw]
  rw [negInf_word]
  exact (max_eq_right bot_le).trans hM

/-- The exponentials, with one real `M` a row taken off its scores. -/
theorem expScore_apply (hx : ∀ i : S4x512x1024.Idx, x0 i = (X (i 0) (i 1) (i 2) : EReal))
    (hw : ∀ i : S16x1024x256.Idx, x1 i = (W (i 0) (i 1) (i 2) : EReal)) (j : S4x16x512.Idx) :
    ∃ M : ℝ, ∀ t : Fin 512,
      val_main_v9 x0 x1 (idx_main_v10 j t) = (Real.exp (score (X (j 0)) (W (j 1)) (j 2) t - M) : EReal) := by
  obtain ⟨M, hM⟩ := shift_real hx hw j
  refine ⟨M, fun t => ?_⟩
  rw [val_main_v9_apply, val_main_v8_apply, val_main_v7_apply, val_main_v6_apply, score_apply hx hw]
  rw [show idx_main_v6 (idx_main_v7 (idx_main_v10 j t)) = j from by
    funext a
    match a with
    | ⟨0, _⟩ => rfl
    | ⟨1, _⟩ => rfl
    | ⟨2, _⟩ => rfl, hM]
  rfl

/-- The reference's second result is the array of weights. -/
theorem weights_eq (hx : ∀ i : S4x512x1024.Idx, x0 i = (X (i 0) (i 1) (i 2) : EReal))
    (hw : ∀ i : S16x1024x256.Idx, x1 i = (W (i 0) (i 1) (i 2) : EReal)) :
    val_main_v13 x0 x1 = weights X W := by
  funext i
  obtain ⟨M, hM⟩ := expScore_apply hx hw (idx_main_v11 (idx_main_v12 i))
  have hi : idx_main_v10 (idx_main_v11 (idx_main_v12 i)) (i 3) = i := by
    funext a
    match a with
    | ⟨0, _⟩ => rfl
    | ⟨1, _⟩ => rfl
    | ⟨2, _⟩ => rfl
    | ⟨3, _⟩ => rfl
  have he := hM (i 3)
  rw [hi] at he
  rw [val_main_v13_apply, val_main_v12_apply, val_main_v11_apply, val_main_v10_apply, he]
  simp only [hM, coe_sum]
  rw [val_main_cst_1_apply, show (FloatOps.ofBits .f32 0x00000000#32 : Ideal .f32) = (0 : EReal) from Ideal.ofBits_zero_f32,
    zero_add]
  refine (Ideal.div_coe (sum_exp_pos _).ne' _).trans ?_
  rw [← EReal.coe_mul]
  exact congrArg Real.toEReal (weight_shift (X (i 0)) (W (i 1)) M (i 2) (i 3))

/-- The reference's first result is the array of averaged rows. -/
theorem averages_eq (hx : ∀ i : S4x512x1024.Idx, x0 i = (X (i 0) (i 1) (i 2) : EReal))
    (hw : ∀ i : S16x1024x256.Idx, x1 i = (W (i 0) (i 1) (i 2) : EReal)) :
    val_main_v14 x0 x1 = averages X W := by
  funext i
  rw [val_main_v14_apply, weights_eq hx hw]
  simp only [weights, hx, coe_sum_mul]
  rfl

end Cert.ReferenceIdeal.HeadValue

end
-- ==== Proof.Finite.lean ====
/- What the precondition says: every element of the first two arguments is a real number. -/
module

public import proofs.«01_k».proof.Pre_finite
public import proofs.«01_k».proof.Proof.Head
public import Idealize.ShloMosaic.Lib.Pointwise
public import Idealize.ShloMosaic.Lib.IdealHost

@[expose] public section

noncomputable section

namespace Cert.Pre_finite.Real

open Idealize.ShloMosaic Cert.Pre_finite Cert.Head

/-- A scalar may be broadcast to each argument's shape. -/
instance facts : Cert.Pre_finite.Facts where
  bcast_S_S4x512x1024 := by decide
  bcast_S_S16x1024x256 := by decide

/-- A comparison word that is one says that the left operand is the smaller. -/
theorem lt_of_word {x y : EReal} (h : (FloatOps.cmpf (F := Ideal) (φ := .f32) .olt x y) = 1#1) : x < y := by
  by_contra hn
  revert h
  rw [show (FloatOps.cmpf (F := Ideal) (φ := .f32) .olt x y) = BitVec.ofBool (decide (x < y)) from rfl, decide_eq_false hn]
  decide

/-- Under the precondition the first argument's elements are real. -/
theorem arg0_real {x : FVec Ideal S4x512x1024 .f32} {w w' : FVec Ideal S16x1024x256 .f32}
    (h : (fn x w w').1 = fun _ => 1#1) (i : S4x512x1024.Idx) : ((x (ix3 (i 0) (i 1) (i 2))).toReal : EReal) = x i := by
  have hi := lt_of_word (x := Host.absf x i) (y := Ideal.ofBits .f32 0x7F800000#32) (congrFun h i)
  rw [posInf_word] at hi
  rw [ix3_eta i]
  exact coe_toReal_of_abs_lt hi

/-- Under the precondition the second argument's elements are real. -/
theorem arg1_real {x : FVec Ideal S4x512x1024 .f32} {w w' : FVec Ideal S16x1024x256 .f32}
    (h : (fn x w w').2 = fun _ => 1#1) (i : S16x1024x256.Idx) : ((w (ix3 (i 0) (i 1) (i 2))).toReal : EReal) = w i := by
  have hi := lt_of_word (x := Host.absf w i) (y := Ideal.ofBits .f32 0x7F800000#32) (congrFun h i)
  rw [posInf_word] at hi
  rw [ix3_eta i]
  exact coe_toReal_of_abs_lt hi

end Cert.Pre_finite.Real

end
-- ==== Proof.lean ====
/- The certificate: the three programs run to completion with their arguments unchanged and every semaphore counter back
   at zero, and the kernel and the reference end with equal results on real arguments. -/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.KernelArrays
public import proofs.«01_k».proof.Proof.HeadReference
public import proofs.«01_k».proof.Proof.Finite
public import Idealize.ShloMosaic.Lib.Quiescent
public import Idealize.ShloMosaic.Adequacy
public import Idealize.ShloMosaic.Init

@[expose] public section

noncomputable section

namespace Cert.Proof

open Idealize.ShloMosaic Idealize.SL.Sem

/-- The reference runs, keeps its arguments, and leaves every semaphore counter at zero: it has no semaphores. -/
theorem reference_frame : Cert.quiescent_ReferenceIdeal := fun m ρ _ =>
  (θ_run _ _ _).mono (fun r h => ⟨fun c => (h c).2.2, sem_eq_zero_of_no_sems rfl r.2⟩) (Cert.ReferenceIdeal.Value.run m ρ)

/-- On real arguments the kernel and the reference both end with the averaged rows and the weights of every head of
    every batch entry. -/
theorem results_equal : Cert.algebraic_KernelIdeal_ReferenceIdeal_pre_finite := by
  intro m ρ m' ρ' hpre hargs
  let X : (c : Dev Cert.KernelIdeal.nD) → Fin 4 → Fin 512 → Fin 1024 → ℝ := fun c b t d =>
    (m ((c.tc : Thread Cert.KernelIdeal.nD Cert.KernelIdeal.τ).loc Cert.KernelIdeal.main_arg0) (ix3 b t d) : EReal).toReal
  let W : (c : Dev Cert.KernelIdeal.nD) → Fin 16 → Fin 1024 → Fin 256 → ℝ := fun c n d h =>
    (m ((c.tc : Thread Cert.KernelIdeal.nD Cert.KernelIdeal.τ).loc Cert.KernelIdeal.main_arg1) (ix3 n d h) : EReal).toReal
  have hx (c : Dev Cert.KernelIdeal.nD) (i : Cert.KernelIdeal.S4x512x1024.Idx) :
      m ((c.tc : Thread Cert.KernelIdeal.nD Cert.KernelIdeal.τ).loc Cert.KernelIdeal.main_arg0) i
        = (X c (i 0) (i 1) (i 2) : EReal) := (Cert.Pre_finite.Real.arg0_real (hpre c).1 i).symm
  have hw (c : Dev Cert.KernelIdeal.nD) (i : Cert.KernelIdeal.S16x1024x256.Idx) :
      m ((c.tc : Thread Cert.KernelIdeal.nD Cert.KernelIdeal.τ).loc Cert.KernelIdeal.main_arg1) i
        = (W c (i 0) (i 1) (i 2) : EReal) := (Cert.Pre_finite.Real.arg1_real (hpre c).2 i).symm
  refine ⟨fun c => Cert.Head.averages (X c) (W c), fun c => Cert.Head.weights (X c) (W c),
    (θ_run _ _ _).mono (fun r h c => ⟨?_, ?_, (h c).2.2⟩) (Cert.KernelIdeal.Value.run_blocks m ρ),
    (θ_run _ _ _).mono (fun r h c => ⟨?_, ?_, (h c).2.2⟩) (Cert.ReferenceIdeal.Value.run m' ρ')⟩
  · exact (h c).1.trans (Cert.KernelIdeal.HeadValue.averages_arr m c (hx c) (hw c))
  · exact (h c).2.1.trans (Cert.KernelIdeal.HeadValue.weights_arr m c (hx c) (hw c))
  · refine (h c).1.trans ((Cert.ReferenceIdeal.Read.val_main_v14_eq ..).trans ?_)
    rw [(hargs c).1, (hargs c).2.1]
    exact Cert.ReferenceIdeal.HeadValue.averages_eq (hx c) (hw c)
  · refine (h c).2.1.trans ((Cert.ReferenceIdeal.Read.val_main_v13_eq ..).trans ?_)
    rw [(hargs c).1, (hargs c).2.1]
    exact Cert.ReferenceIdeal.HeadValue.weights_eq (hx c) (hw c)

/-- Everything the certificate claims. -/
theorem claim : Cert.Claim :=
  ⟨Cert.Kernel.Gen.facts, Cert.KernelIdeal.Gen.facts, Cert.ReferenceIdeal.Gen.facts, Cert.Pre_finite.Real.facts,
    fun m ρ _ => Cert.Kernel.Gen.frame m ρ, fun m ρ _ => Cert.KernelIdeal.Gen.frame m ρ,
    fun m ρ _ => Cert.KernelIdeal.Gen.frame m ρ, reference_frame, fun m ρ _ => reference_frame m ρ trivial, trivial,
    results_equal⟩

end Cert.Proof

end
